-- ==== Defs.lean ====
def Pre_Kernel [hPre_param_in_range : Cert.Pre_param_in_range.Facts] (m : (ℓ : Loc Cert.Kernel.nD Cert.Kernel.τ Cert.Kernel.sig) → Buf (Elt Bits) ℓ) : Prop :=
  ∀ c : Dev Cert.Kernel.nD,
    (Cert.Pre_param_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_param_in_range : Cert.Pre_param_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_param_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_param_in_range [hPre_param_in_range : Cert.Pre_param_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_param_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_param_in_range : Cert.Pre_param_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_param_in_range : Cert.Pre_param_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_param_in_range [hReferenceIdeal : Cert.ReferenceIdeal.Facts] [hPre_param_in_range : Cert.Pre_param_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_param_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_param_in_range : Cert.Pre_param_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_param_in_range : Cert.Pre_param_in_range.Facts),
    quiescent_Kernel (hKernel := hKernel) (hPre_param_in_range := hPre_param_in_range)
    ∧ quiescent_KernelIdeal (hKernelIdeal := hKernelIdeal) (hPre_param_in_range := hPre_param_in_range)
    ∧ quiescent_ReferenceIdeal (hReferenceIdeal := hReferenceIdeal)
    ∧ quiescent_ReferenceIdeal_pre_param_in_range (hReferenceIdeal := hReferenceIdeal) (hPre_param_in_range := hPre_param_in_range)
    ∧ preserves_Kernel_KernelIdeal
    ∧ algebraic_KernelIdeal_ReferenceIdeal (hKernelIdeal := hKernelIdeal) (hReferenceIdeal := hReferenceIdeal) (hPre_param_in_range := hPre_param_in_range)
-- ==== Pre_param_in_range.lean ====
abbrev S16384x4096 : Shape := ⟨2, ![16384, 4096]⟩
abbrev S_ : Shape := ⟨0, ![]⟩
abbrev S64x4096 : Shape := ⟨2, ![64, 4096]⟩

class Facts : Prop where

variable [Facts]

def fn {F : FTy → Type} [FloatOps F] (main_arg0 : FVec F S16384x4096 .f32) (main_arg1 : IVec S_ 32) (main_arg2 : IVec S64x4096 32) : IVec S_ 1 :=
  let main_c : IVec S_ 32 := constantI S_ 32 0#32
  let main_v0 : IVec S_ 1 := cmpi .sge main_arg1 main_c
  let main_c_0 : IVec S_ 32 := constantI S_ 32 64#32
  let main_v1 : IVec S_ 1 := cmpi .slt main_arg1 main_c_0
  let main_v2 : IVec S_ 1 := andi main_v0 main_v1
  main_v2
-- ==== Kernel.lean ====
abbrev S16384x4096 : Shape := ⟨2, ![16384, 4096]⟩
abbrev S_ : Shape := ⟨0, ![]⟩
abbrev S64x4096 : Shape := ⟨2, ![64, 4096]⟩
abbrev S1 : Shape := ⟨1, ![1]⟩
abbrev S5x512x4096 : Shape := ⟨3, ![5, 512, 4096]⟩
abbrev S2x512x4096 : Shape := ⟨3, ![2, 512, 4096]⟩
abbrev S1x4096 : Shape := ⟨2, ![1, 4096]⟩
abbrev S5 : Shape := ⟨1, ![5]⟩
abbrev S2 : Shape := ⟨1, ![2]⟩
abbrev S1x512x4096 : Shape := ⟨3, ![1, 512, 4096]⟩
abbrev S512x4096 : Shape := ⟨2, ![512, 4096]⟩

abbrev nBuf : Space → Nat
  | .hbm => 5
  | .vmem => 4
  | .smem => 1
  | _ => 0

abbrev bufTy : (tb : Table) → Fin (tcTables nBuf tb) → BufTy
  | .hbm, ⟨0, _⟩ => ⟨S16384x4096, .f32⟩
  | .hbm, ⟨1, _⟩ => ⟨S_, .i32⟩
  | .hbm, ⟨2, _⟩ => ⟨S64x4096, .i32⟩
  | .hbm, ⟨3, _⟩ => ⟨S1, .i32⟩
  | .hbm, ⟨4, _⟩ => ⟨S16384x4096, .f32⟩
  | .local _ .vmem, ⟨0, _⟩ => ⟨S5x512x4096, .f32⟩
  | .local _ .vmem, ⟨1, _⟩ => ⟨S2x512x4096, .f32⟩
  | .local _ .vmem, ⟨2, _⟩ => ⟨S1x4096, .i32⟩
  | .local _ .vmem, ⟨3, _⟩ => ⟨S1x4096, .f32⟩
  | .local _ .smem, ⟨0, _⟩ => ⟨S1, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_stg0_0 : Ref sig .tc := ⟨.smem, 0, rfl⟩
abbrev cc0_sem0_0 : DmaSem sig := 0

abbrev nD : Nat := 1
abbrev τ : Topo := Topo.v7x

variable {F : FTy → Type} [FloatOps F]

abbrev grid0 : Pipeline.Grid := .none

def k0_off1 (v0 : BitVec 32) : Fin 2 → Nat :=
  let c0_i32 : BitVec 32 := 0#32
  ![v0.toNat, 0]

def k0_chk1 (v0 : BitVec 32) : Prop :=
  (∀ a, (k0_off1 v0) a + S1x4096.size a ≤ S64x4096.size a)
theorem k0_off1_inb : ∀ (v0 : BitVec 32) (k0_hw1 : k0_chk1 v0), ∀ a, (k0_off1 v0) a + S1x4096.size a ≤ S64x4096.size a := fun v0 k0_hw1 => k0_hw1

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16384x4096 : Shape := ⟨2, ![16384, 4096]⟩
abbrev S_ : Shape := ⟨0, ![]⟩
abbrev S64x4096 : Shape := ⟨2, ![64, 4096]⟩
abbrev S1x4096 : Shape := ⟨2, ![1, 4096]⟩
abbrev S4096 : Shape := ⟨1, ![4096]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S_, .i32⟩
  | .hbm, ⟨2, _⟩ => ⟨S64x4096, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1x4096, .i32⟩
  | .hbm, ⟨17, _⟩ => ⟨S4096, .i32⟩
  | .hbm, ⟨18, _⟩ => ⟨S4096, .f32⟩
  | .hbm, ⟨19, _⟩ => ⟨S1x4096, .f32⟩
  | .hbm, ⟨20, _⟩ => ⟨S16384x4096, .f32⟩
  | .hbm, ⟨21, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_c_2 : Ref sig .tc := ⟨.hbm, 9, rfl⟩
abbrev main_v3 : Ref sig .tc := ⟨.hbm, 10, rfl⟩
abbrev main_c_3 : Ref sig .tc := ⟨.hbm, 11, rfl⟩
abbrev main_c_4 : Ref sig .tc := ⟨.hbm, 12, rfl⟩
abbrev main_v4 : Ref sig .tc := ⟨.hbm, 13, rfl⟩
abbrev main_c_5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Ring.Slots.lean ====
module

public import Idealize.ShloMosaic.Lib.Pipeline.ValueKit

/-!
# A ring of slots, read and written slot by slot

A buffer of shape `[n, a, b]` is used as `n` slots of shape `[a, b]`. A transfer writes a whole slot through the
reshaped view of the slot, a load reads a slot through its rectangle, and a store writes a slot's rectangle. The
lemmas below say what one access reads after another.
-/

@[expose] public section

namespace Cert.Ring

open Idealize.ShloMosaic

variable {sig : RefSig} {κ : Kind} {sp : Space} {e : EltTy} {Val : EltTy → Type} {n a b : ℕ}

/-- The shape of a ring of `n` slots of shape `[a, b]`. -/
abbrev RingS (n a b : ℕ) : Shape := ⟨3, ![n, a, b]⟩

/-- The shape of one slot seen from outside the ring. -/
abbrev SlotS (a b : ℕ) : Shape := ⟨2, ![a, b]⟩

/-- The rectangle of slot `s` of a ring. -/
abbrev slotRect (n a b s : ℕ) (h : ∀ x, (![s, 0, 0] : Fin 3 → ℕ) x + (RingS 1 a b).size x ≤ (RingS n a b).size x) :
    Rect (RingS n a b) := Rect.unit (s := RingS n a b) ![s, 0, 0] (RingS 1 a b).size h

/-- The slot rectangles of two different slots have no element in common. -/
theorem slots_disjoint (v : View sig κ sp (RingS n a b) e) {s s' : ℕ}
    (h : ∀ x, (![s, 0, 0] : Fin 3 → ℕ) x + (RingS 1 a b).size x ≤ (RingS n a b).size x)
    (h' : ∀ x, (![s', 0, 0] : Fin 3 → ℕ) x + (RingS 1 a b).size x ≤ (RingS n a b).size x)
    (hne : s ≠ s') :
    Disjoint (v.slice (slotRect n a b s h)).set
      (v.slice (slotRect n a b s' h')).set := by
  rw [View.set_slice, View.set_slice]
  refine (Finset.disjoint_map _).mpr (Finset.disjoint_left.mpr fun y hy hy' => ?_)
  have e1 := (Rect.mem_set_unit.mp hy) 0
  have e2 := (Rect.mem_set_unit.mp hy') 0
  simp only [Matrix.cons_val_zero] at e1 e2
  omega

/-- A slot loaded after a transfer into that slot is what the transfer brought. -/
theorem load_hit (v : View sig κ sp (RingS n a b) e) {s : ℕ}
    (h : ∀ x, (![s, 0, 0] : Fin 3 → ℕ) x + (RingS 1 a b).size x ≤ (RingS n a b).size x)
    (hq : (SlotS a b).numel = (RingS 1 a b).numel) (hc : (RingS 1 a b).ShapeCasts (SlotS a b))
    (f : v.ty.Contents Val) (p : (SlotS a b).Idx → Val e) :
    shapeCast (s := RingS 1 a b) (SlotS a b)
      (View.readAt Val v (slotRect n a b s h).toLoadRect
        (View.write Val ((v.slice (slotRect n a b s h)).reshape (SlotS a b) hq)
          f p Finset.univ)) hc = p :=
  View.read_write_univ (v := ((v.slice (slotRect n a b s h)).reshape (SlotS a b) hq)) f p

/-- A slot loaded after a transfer into another slot is what it was before. -/
theorem load_skip (v : View sig κ sp (RingS n a b) e) {s s' : ℕ}
    (h : ∀ x, (![s, 0, 0] : Fin 3 → ℕ) x + (RingS 1 a b).size x ≤ (RingS n a b).size x)
    (h' : ∀ x, (![s', 0, 0] : Fin 3 → ℕ) x + (RingS 1 a b).size x ≤ (RingS n a b).size x)
    (hq : (SlotS a b).numel = (RingS 1 a b).numel) (hc : (RingS 1 a b).ShapeCasts (SlotS a b))
    (f : v.ty.Contents Val) (p : (SlotS a b).Idx → Val e) (hne : s ≠ s') :
    shapeCast (s := RingS 1 a b) (SlotS a b) (View.readAt Val v (slotRect n a b s h).toLoadRect
        (View.write Val ((v.slice (slotRect n a b s' h')).reshape (SlotS a b) hq) f p Finset.univ)) hc
      = shapeCast (s := RingS 1 a b) (SlotS a b) (View.readAt Val v (slotRect n a b s h).toLoadRect f) hc := by
  refine congrArg (fun z => shapeCast (s := RingS 1 a b) (SlotS a b) z hc) ?_
  rw [View.readAt_rect, View.readAt_rect]
  refine View.read_congr fun i hi => View.write_of_not_mem _ _ _ fun hm => ?_
  have hm' : i ∈ (v.slice (slotRect n a b s' h')).set := by
    have e1 := View.set_reshape (v := v.slice (slotRect n a b s' h')) (s' := SlotS a b) hq
    rw [← e1]
    exact hm
  exact Finset.disjoint_left.mp (slots_disjoint v h h' hne) hi hm'

/-- A slot taken out by a transfer after a store of the whole slot is what was stored. -/
theorem take_hit (v : View sig κ sp (RingS n a b) e) {s : ℕ}
    (h : ∀ x, (![s, 0, 0] : Fin 3 → ℕ) x + (RingS 1 a b).size x ≤ (RingS n a b).size x)
    (hq : (SlotS a b).numel = (RingS 1 a b).numel) (hc : (RingS 1 a b).ShapeCasts (SlotS a b))
    (f : v.ty.Contents Val) (p : (RingS 1 a b).Idx → Val e) (L : List (View.Piece Val (RingS n a b) e)) :
    View.read Val ((v.slice (slotRect n a b s h)).reshape (SlotS a b) hq)
      (v.writes Val f (⟨slotRect n a b s h, p⟩ :: L)) = shapeCast (s := RingS 1 a b) (SlotS a b) p hc := by
  have e1 : View.readAt Val v (slotRect n a b s h).toLoadRect (v.writes Val f (⟨slotRect n a b s h, p⟩ :: L)) = p :=
    View.read_write_univ (v := v.slice (slotRect n a b s h)) _ _
  show shapeCast (s := RingS 1 a b) (SlotS a b) (View.readAt Val v (slotRect n a b s h).toLoadRect _) hc = _
  rw [e1]

end Cert.Ring
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Routed
public import Idealize.ShloMosaic.Lib.Ring
public import Idealize.ShloMosaic.Lib.Tactic
public import Idealize.ShloMosaic.Lib.WordCmp

/-!
# What one run of the kernel's body does

The body is run once, with all its buffers held whole: the selector word in scalar memory, the data, the table and the
result in main memory, the input ring, the output ring, the mask row as words and as floats. Every transfer semaphore
is at zero before and after. The data, the table and the selector are unchanged; the result holds the 32 transferred
blocks, each written over what was there.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UC sig nD τ) ℕ

/-! ## The buffers, each whole -/

/-- The data, in main memory. -/
abbrev hbData : Memref sig .tc .hbm S16384x4096 .f32 := Memref.whole main_arg0
/-- The table, in main memory. -/
abbrev hbTable : Memref sig .tc .hbm S64x4096 .i32 := Memref.whole main_arg2
/-- The result, in main memory. -/
abbrev hbOut : Memref sig .tc .hbm S16384x4096 .f32 := Memref.whole main_v1
/-- The input ring of five slots. -/
abbrev scIn : Memref sig .tc .vmem S5x512x4096 .f32 := Memref.whole cc0_scratch0
/-- The output ring of two slots. -/
abbrev scOut : Memref sig .tc .vmem S2x512x4096 .f32 := Memref.whole cc0_scratch1
/-- The mask row as integer words. -/
abbrev scWords : Memref sig .tc .vmem S1x4096 .i32 := Memref.whole cc0_scratch2
/-- The mask row as floats. -/
abbrev scMask : Memref sig .tc .vmem S1x4096 .f32 := Memref.whole cc0_scratch3
/-- The selector, staged in scalar memory. -/
abbrev stg : Memref sig .tc .smem S1 .i32 := Memref.whole cc0_stg0_0

/-- The contents of a buffer on device `c`. -/
abbrev BufOf (c : Dev nD) {sp : Space} {S : Shape} {e : EltTy} (M : Memref sig .tc sp S e) : Type := Buf (Elt F) (M.view.loc (c : Thread nD τ))

/-- A buffer held whole on device `c`, at contents `f`. -/
abbrev pt (c : Dev nD) {sp : Space} {S : Shape} {e : EltTy} (M : Memref sig .tc sp S e) (f : BufOf (F := F) c M) : sProp 𝕄 :=
  M.view.loc (c : Thread nD τ) ↦{fullShare} f

/-- A transfer semaphore of device `c`, at zero. -/
abbrev cell (c : Dev nD) (i : Fin 9) : sProp 𝕄 := semVal ((c : Thread nD τ), SemLoc.dma i) 0

set_option sl_exec.dmaWindow true
set_option sl_exec.dmaWindowLent true
set_option maxHeartbeats 0 in
/-- The body run from contents of every buffer, the selector word naming a row of the table: it ends, and the result
    then holds the listed pieces written over what it held. -/
def run (c : Dev nD) (fs : BufOf (F := F) c stg) (f0 : BufOf (F := F) c hbData) (f2 : BufOf (F := F) c hbTable)
    (fO : BufOf (F := F) c hbOut) (di : BufOf (F := F) c scIn) (dO : BufOf (F := F) c scOut)
    (dmi : BufOf (F := F) c scWords) (dmf : BufOf (F := F) c scMask) (hchk : ∀ y, k0_chk1 (fs y)) :
    { L : List (View.Piece (Elt F) S16384x4096 .f32) //
      ∀ (W : Waits sig Unit) (K : PUnit → sProp 𝕄),
        iprop(pt c stg fs ∗ pt c hbData f0 ∗ pt c hbTable f2 ∗ pt c hbOut fO
            ∗ pt c scIn di ∗ pt c scOut dO ∗ pt c scWords dmi ∗ pt c scMask dmf
            ∗ cell (F := F) c 1 ∗ cell (F := F) c 2 ∗ cell (F := F) c 3 ∗ cell (F := F) c 4 ∗ cell (F := F) c 5
            ∗ cell (F := F) c 6 ∗ cell (F := F) c 7 ∗ cell (F := F) c 8 ∗ owes (c : Thread nD τ) 0 W
            ∗ (iprop(pt c stg fs ∗ pt c hbData f0 ∗ pt c hbTable f2 ∗ pt c hbOut (hbOut.view.writes (Elt F) fO L)
                ∗ (∃ f, pt c scIn f) ∗ (∃ f, pt c scOut f) ∗ (∃ f, pt c scWords f) ∗ (∃ f, pt c scMask f)
                ∗ cell (F := F) c 1 ∗ cell (F := F) c 2 ∗ cell (F := F) c 3 ∗ cell (F := F) c 4 ∗ cell (F := F) c 5
                ∗ cell (F := F) c 6 ∗ cell (F := F) c 7 ∗ cell (F := F) c 8 ∗ (∃ W', owes (c : Thread nD τ) 0 W')) -∗ K ⟨⟩))
          ⊢ wp frame (wpE (defs₀ (F := F)) Variants.none c none) Set.univ
            (cc0__body stg (Memref.isWhole_whole _) hbTable (Memref.isWhole_whole _) hbData (Memref.isWhole_whole _)
              hbOut (Memref.isWhole_whole _) scIn (Memref.isWhole_whole _) scOut (Memref.isWhole_whole _)
              scWords (Memref.isWhole_whole _) scMask (Memref.isWhole_whole _) cc0_scratch4 cc0_scratch5 cc0_scratch6) K } := by
  refine ⟨?_, fun W K => ?_⟩
  case refine_2 =>
    simp only [cc0__body_eq_skeleton]
    unfold cc0__body_skel
    iintro ⟨Hs, H0, H2, HO, Hi, Hb, Hmi, Hmf, Hq1, Hq2, Hq3, Hq4, Hq5, Hq6, Hq7, Hq8, HW, Hk⟩
    sl_exec (disch := exact hchk _)
    sl_step
    iapply Hk
    isplitl [Hs]; · iexact Hs
    isplitl [H0]; · iexact H0
    isplitl [H2]; · iexact H2
    isplitl [HO]; · iexact HO
    isplitl [Hi]; · iexists _; iexact Hi
    isplitl [Hb]; · iexists _; iexact Hb
    isplitl [Hmi]; · iexists _; iexact Hmi
    isplitl [Hmf]; · iexists _; iexact Hmf
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    iexists _; iexact HW

end Cert.KernelIdeal.Hand
end
-- ==== Proof.KernelIdeal.Value.lean ====
module

public import proofs.«01_k».proof.Proof.KernelIdeal.Body
public import proofs.«01_k».proof.Proof.Ring.Slots
public import Idealize.ShloMosaic.Lib.Pipeline.ValueKit
public import Idealize.ShloMosaic.Lib.ValueLayout
public import Idealize.ShloMosaic.Lib.Pipeline.ReadBack

/-!
# What the result holds after the body

Every one of the 32 transferred blocks is its block of the data times the mask row, so the result is the whole product.
-/

@[expose] public section

set_option maxRecDepth 16384

noncomputable section

namespace Cert.KernelIdeal.Hand

open Cert.KernelIdeal Cert.KernelIdeal.Gen
open Idealize.ShloMosaic hiding ix2
open Idealize.ShloMosaic.TcCoe Idealize.ShloMosaic.Tactic Idealize.ShloMosaic.ValueIdx

variable {F : FTy → Type} [FloatOps F]

/-- The row of the table that the selector word `w` names. -/
def tableRow (w : BitVec 32) (hw : k0_chk1 w) (f2 : Vec F S64x4096 .i32) : Vec F S1x4096 .i32 :=
  fun j => f2 ((Rect.unit (s := S64x4096) (k0_off1 w) S1x4096.size hw).emb j)

/-- The data, each column times the mask row's entry of that column. -/
def product (f0 : FVec F S16384x4096 .f32) (row : Vec F S1x4096 .i32) : FVec F S16384x4096 .f32 :=
  fun i => FloatOps.mulf (f0 i) (FloatOps.sitofp .f32 (row (ix2 (0 : Fin 1) (i 1))))

/-- One block of 512 rows of the data times the broadcast mask row is that block of the product. -/
theorem block_apply (o : ℕ) (inb : ∀ a, (![o, 0] : Fin 2 → ℕ) a + S512x4096.size a ≤ S16384x4096.size a)
    (f0 : FVec F S16384x4096 .f32) (row : Vec F S1x4096 .i32) (hb : S1x4096.Broadcasts S512x4096) (x : S512x4096.Idx) :
    mulf (F := F) (fun y : S512x4096.Idx => f0 ((Rect.unit (s := S16384x4096) ![o, 0] S512x4096.size inb).emb y))
        (broadcastTo S512x4096 (sitofp (F := F) .f32 row) hb) x
      = product f0 row ((Rect.unit (s := S16384x4096) ![o, 0] S512x4096.size inb).emb x) := by
  unfold mulf product
  congr 1
  obtain ⟨p, q, rfl⟩ : ∃ (p : Fin 512) (q : Fin 4096), x = ix2 p q := ⟨x 0, x 1, by funext a; fin_cases a <;> rfl⟩
  rw [broadcastTo_1b_ab_apply]
  unfold sitofp
  congr 3
  exact Fin.ext (by show q.val = 0 + 1 * q.val; omega)

set_option maxHeartbeats 16000000 in
/-- The mask the blocks are multiplied by is the table's row, converted. -/
theorem mask_eq (c : Dev nD) (fs : BufOf (F := F) c stg) (f2 : BufOf (F := F) c hbTable) (dmi : BufOf (F := F) c scWords)
    (hchk : ∀ y, k0_chk1 (fs y)) (w : BitVec 32) (hw : k0_chk1 w) (hfs : ∀ y, fs y = w) :
    run.sl.v40 c fs f2 dmi hchk = sitofp (F := F) .f32 (tableRow w hw f2) := by
  obtain rfl : fs = fun _ => w := funext hfs
  sl_unfold_run_names
  simp (disch := decide) only [View.readCov_unit_lit', k0_pay1, shapeCast_self, View.readAt_eq_ld,
    View.ld_unit_lit', View.read_write_univ]
  rfl

/-- A list of pieces is made of blocks of `G` if its first piece and the rest are. -/
theorem pieces_cons {s : Shape} {e : EltTy} {Val : EltTy → Type} {G : s.Idx → Val e} {r : Rect s} {p : r.shape.Idx → Val e}
    {L : List (View.Piece Val s e)} (hL : View.PiecesOf G L) (h : ∀ x, p x = G (r.emb x)) : View.PiecesOf G (⟨r, p⟩ :: L) :=
  ⟨h, hL⟩

set_option maxHeartbeats 1600000 in
/-- Every piece written to the result is its block of the product. -/
theorem pieces_eq (c : Dev nD) (fs : BufOf (F := F) c stg) (f0 : BufOf (F := F) c hbData) (f2 : BufOf (F := F) c hbTable)
    (fO : BufOf (F := F) c hbOut) (di : BufOf (F := F) c scIn) (dO : BufOf (F := F) c scOut)
    (dmi : BufOf (F := F) c scWords) (dmf : BufOf (F := F) c scMask) (hchk : ∀ y, k0_chk1 (fs y))
    (w : BitVec 32) (hw : k0_chk1 w) (hfs : ∀ y, fs y = w) :
    View.PiecesOf (product f0 (tableRow w hw f2)) (run c fs f0 f2 fO di dO dmi dmf hchk).1 := by
  obtain rfl : fs = fun _ => w := funext hfs
  iterate 32 refine pieces_cons ?_ ?_
  · exact trivial
  all_goals
    intro x
    refine (congrFun (Ring.take_hit (n := 2) (a := 512) (b := 4096) scOut.view _ _ shapeCasts_S1x512x4096_S512x4096 _ _ _) x).trans ?_
    sl_unfold_run_names
    refine (congrFun (shapeCast_shapeCast _ shapeCasts_S512x4096_S1x512x4096 shapeCasts_S1x512x4096_S512x4096) x).trans ?_
    refine (congrFun (congrArg₂ (mulf (F := F) (s := S512x4096) (φ := .f32)) ?_
      (congrArg (fun z => broadcastTo S512x4096 z _) (mask_eq c _ f2 dmi hchk w hw hfs))) x).trans (block_apply _ _ f0 _ _ x)
    repeat refine (Ring.load_skip (n := 5) (a := 512) (b := 4096) scIn.view _ _ _ _ _ _ (by decide)).trans ?_
    exact Ring.load_hit (n := 5) (a := 512) (b := 4096) scIn.view _ _ _ _ _

/-- The pieces written to the result cover it. -/
theorem pieces_cover (c : Dev nD) (fs : BufOf (F := F) c stg) (f0 : BufOf (F := F) c hbData) (f2 : BufOf (F := F) c hbTable)
    (fO : BufOf (F := F) c hbOut) (di : BufOf (F := F) c scIn) (dO : BufOf (F := F) c scOut)
    (dmi : BufOf (F := F) c scWords) (dmf : BufOf (F := F) c scMask) (hchk : ∀ y, k0_chk1 (fs y)) (y : S16384x4096.Idx) :
    ∃ p ∈ (run c fs f0 f2 fO di dO dmi dmf hchk).1, y ∈ p.1.set :=
  View.cover_of_tiledL (run c fs f0 f2 fO di dO dmi dmf hchk).1 S512x4096.size (by sl_kernel_rfl) y

/-- After the body the result is the data times the mask row, whatever the buffers held before. -/
theorem result_eq (c : Dev nD) (fs : BufOf (F := F) c stg) (f0 : BufOf (F := F) c hbData) (f2 : BufOf (F := F) c hbTable)
    (fO : BufOf (F := F) c hbOut) (di : BufOf (F := F) c scIn) (dO : BufOf (F := F) c scOut)
    (dmi : BufOf (F := F) c scWords) (dmf : BufOf (F := F) c scMask) (hchk : ∀ y, k0_chk1 (fs y))
    (w : BitVec 32) (hw : k0_chk1 w) (hfs : ∀ y, fs y = w) :
    hbOut.view.writes (Elt F) fO (run c fs f0 f2 fO di dO dmi dmf hchk).1 = product f0 (tableRow w hw f2) := by
  have read_self : ∀ X : BufOf (F := F) c hbOut, hbOut.view.read (Elt F) X = X := fun _ => rfl
  have hp := View.PiecesOf.mem (pieces_eq c fs f0 f2 fO di dO dmi dmf hchk w hw hfs)
  have hc := pieces_cover c fs f0 f2 fO di dO dmi dmf hchk
  generalize (run c fs f0 f2 fO di dO dmi dmf hchk).1 = L at hp hc ⊢
  rw [← read_self (hbOut.view.writes (Elt F) fO L)]
  exact funext fun y => View.read_writes_apply_of_pieces hbOut.view fO (product f0 (tableRow w hw f2)) L hp y (hc y)

end Cert.KernelIdeal.Hand
end
-- ==== Proof.KernelIdeal.Launch.lean ====
module

public import proofs.«01_k».proof.Proof.Gen.KernelIdeal.Frame
public import proofs.«01_k».proof.Proof.KernelIdeal.Value

/-!
# The whole program, run

The program reshapes the selector to one word, stages that word in scalar memory and runs the body once. Where the
selector names a row of the table, the program ends with its arguments unchanged, its result at the data times that
row of the table, and every semaphore at zero.
-/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## The staged selector -/

/-- The one-word array the program makes of the selector holds the selector. -/
theorem V_word (c : Dev nD) (w : BitVec 32) (hsel : ∀ y, m ((c : Thread nD τ).loc main_arg1) y = w) (y : S1.Idx) :
    V m c main_v0 y = w := by
  show StableHlo.after hostOps0 (fun b => m (c, b)) (Proc.devRef .tc main_v0) y = w
  rw [StableHlo.after_cons, StableHlo.after_nil, StableHlo.reshape_result]
  exact hsel _

/-- The block staged in scalar memory holds the selector. -/
theorem staged_word (c : Dev nD) (w : BitVec 32) (hsel : ∀ y, m ((c : Thread nD τ).loc main_arg1) y = w) (t : Fin cfg0.N)
    (y : S1.Idx) : iblk m c 0 t y = w :=
  V_word m c w hsel _

/-! ## The buffers and semaphores the body is given -/

/-- The eight transfer semaphores of the body. -/
abbrev osem0 : Fin 8 → SemLoc sig := fun j =>
  (![SemLoc.dma 1, SemLoc.dma 2, SemLoc.dma 3, SemLoc.dma 4, SemLoc.dma 5, SemLoc.dma 6, SemLoc.dma 7, SemLoc.dma 8] : Fin 8 → SemLoc sig) j

/-- These semaphores are distinct and none of them is used to stage the selector. -/
theorem ownSemFacts0 : Pipeline.OwnSemFacts spec0 osem0 := by decide

/-- The body's semaphores at zero, one by one. -/
theorem ownSems0_list (c : Dev nD) :
    (Pipeline.ownSems0 (Ix := Unit) (Name := ℕ) (U := Pipeline.UC sig nD τ) (Lvl := ℕ) (Val := Elt F) (τ := τ) osem0 c : sProp 𝕄)
      = iprop(cell (F := F) c 1 ∗ cell (F := F) c 2 ∗ cell (F := F) c 3 ∗ cell (F := F) c 4 ∗ cell (F := F) c 5
          ∗ cell (F := F) c 6 ∗ cell (F := F) c 7 ∗ cell (F := F) c 8) := by
  rw [Pipeline.ownSems0_eq_of_list c osem0 [0, 1, 2, 3, 4, 5, 6, 7] (by decide) (by decide)]; rfl

/-- The arrays the body reads and writes itself: the data, the table and the result. -/
def R0 : Finset (Ref sig .tc) := {main_arg0, main_arg2, main_v1}

/-- None of these arrays is staged. -/
theorem R0_sub : R0 ⊆ Pipeline.restRefs sig spec0 := by decide

/-- Those arrays, each whole, one by one. -/
theorem routed_list (c : Dev nD) (W : (b : Ref sig .tc) → Buf (Elt F) ((c : Thread nD τ).loc b)) :
    (Pipeline.routed R0 c W : sProp 𝕄)
      = iprop(pt c hbData (W main_arg0) ∗ pt c hbTable (W main_arg2) ∗ pt c hbOut (W main_v1)) := by
  unfold Pipeline.routed; rw [BI.bigSep_eq_bigSepL_of_eq [main_arg0, main_arg2, main_v1] (by decide) (by decide)]; rfl

/-- What the body is given and gives back, one by one. -/
theorem ends_list (c : Dev nD) (W : (b : Ref sig .tc) → Buf (Elt F) ((c : Thread nD τ).loc b)) :
    (Pipeline.Ends spec0 osem0 R0 c W : sProp 𝕄)
      = iprop((pt c hbData (W main_arg0) ∗ pt c hbTable (W main_arg2) ∗ pt c hbOut (W main_v1))
          ∗ (cell (F := F) c 1 ∗ cell (F := F) c 2 ∗ cell (F := F) c 3 ∗ cell (F := F) c 4 ∗ cell (F := F) c 5
            ∗ cell (F := F) c 6 ∗ cell (F := F) c 7 ∗ cell (F := F) c 8)
          ∗ ((∃ f, pt (F := F) c scIn f) ∗ (∃ f, pt (F := F) c scOut f) ∗ (∃ f, pt (F := F) c scWords f)
            ∗ (∃ f, pt (F := F) c scMask f))
          ∗ ∃ r, prngReg c r) := by
  unfold Pipeline.Ends; rw [routed_list, ownSems0_list, scopedRest0_eq]

/-! ## The proof data -/

variable (w : Dev nD → BitVec 32) (hw : ∀ c, k0_chk1 (w c))

/-- The arrays after the body: the result at the data times the named row of the table, all others as the body found them. -/
def Y (c : Dev nD) : (b : Ref sig .tc) → Buf (Elt F) ((c : Thread nD τ).loc b) :=
  Function.update (V m c) main_v1 (product (V m c main_arg0) (tableRow (w c) (hw c) (V m c main_arg2)))

/-- The data is as the body found it. -/
theorem Y_data (c : Dev nD) : Y m w hw c main_arg0 = V m c main_arg0 := Function.update_of_ne (by decide) _ _
/-- The table is as the body found it. -/
theorem Y_table (c : Dev nD) : Y m w hw c main_arg2 = V m c main_arg2 := Function.update_of_ne (by decide) _ _
/-- The result is the product. -/
theorem Y_out (c : Dev nD) : Y m w hw c main_v1 = product (V m c main_arg0) (tableRow (w c) (hw c) (V m c main_arg2)) :=
  Function.update_self _ _ _

/-- The staged block stays as fetched; the arrays are as the body found them before its one point, and at `Y` after. -/
def dats (_ : Fin 1) (c : Dev nD) : Dat τ (Elt F) Unit ℕ (Pipeline.UC sig nD τ) ℕ cfg0 c where
  A a := V m c (Pipeline.arrRef spec0 a)
  after a t := match a with
    | ⟨0, _⟩ => iblk m c 0 t
  Φ t := Pipeline.Ends spec0 osem0 R0 c (if t.val = 0 then V m c else Y m w hw c)
  q _ := fullShare
  owed _ := 0

/-- The staged array is as the body found it. -/
theorem A_eq (c : Dev nD) (a : Fin cfg0.W) : (dats m w hw 0 c).A a = V m c (Pipeline.arrRef spec0 a) := by
  dsimp only [dats]

/-- After the body the staging buffer holds the block fetched. -/
theorem after_eq (c : Dev nD) (t : Fin cfg0.N) : (dats m w hw 0 c).after 0 t = iblk m c 0 t := by dsimp only [dats]

/-- Before the body the staging buffer holds the block fetched. -/
theorem before_eq (c : Dev nD) (t : Fin cfg0.N) (d) : (dats m w hw 0 c).before 0 t d = iblk m c 0 t :=
  ((dats m w hw 0 c).before_in_eq_fetched 0 rfl (fun _ => rfl) (fun _ _ _ => rfl)
    (fun t => by rw [after_eq]; unfold Dat.blockOf iblk; rw [A_eq]; try rfl) t d).trans
    (by unfold Dat.fetched Dat.blockOf iblk; rw [A_eq]; try rfl)

/-- Before its point the body is given the arrays as they were. -/
theorem Phi_first (c : Dev nD) : (dats m w hw 0 c).Φ t0_0.castSucc = Pipeline.Ends spec0 osem0 R0 c (V m c) := rfl

/-- After its point the body gives back the arrays at `Y`. -/
theorem Phi_last (c : Dev nD) : (dats m w hw 0 c).Φ t0_0.succ = Pipeline.Ends spec0 osem0 R0 c (Y m w hw c) := rfl

/-! ## The body at its one point -/

/-- What the body has before its point: the arrays, buffers and semaphores, what it owes, and the staged block. -/
def bodyPre (c : Dev nD) (t : Fin cfg0.N) : sProp 𝕄 :=
  iprop((dats m w hw 0 c).Φ t.castSucc ∗ (dats m w hw 0 c).owesAt () t.castSucc
    ∗ (∃ d, owns (c : Thread nD τ) (win0_0.stage (cfg0.slots t 0)) fullShare ((dats m w hw 0 c).before 0 t d)))

/-- What the body has after its point. -/
def bodyPost (c : Dev nD) (t : Fin cfg0.N) : sProp 𝕄 :=
  iprop((dats m w hw 0 c).Φ t.succ ∗ (dats m w hw 0 c).owesAt () t.succ
    ∗ owns (c : Thread nD τ) (win0_0.stage (cfg0.slots t 0)) fullShare ((dats m w hw 0 c).after 0 t))

/-- Owning the staging buffer at a block is holding it whole at that block. -/
theorem owns_stage (c : Dev nD) (f : Vec F S1 .i32) :
    (owns (c : Thread nD τ) (stage0_0 0) fullShare f : sProp 𝕄) = pt c stg f :=
  owns_whole (c : Thread nD τ) cc0_stg0_0 fullShare f

/-- The body at its point, from the arrays as it finds them to the arrays at `Y`. -/
theorem sound_body (hsel : ∀ (c : Dev nD) y, m ((c : Thread nD τ).loc main_arg1) y = w c) (c : Dev nD) (t : Fin cfg0.N) :
    bodyPre m w hw c t ⊢ wp frame (wpE (defs₀ (F := F)) Variants.none c none) Set.univ (bodyAt0 t) (fun _ => bodyPost m w hw c t) := by
  have hst : ∀ y, iblk m c 0 t y = w c := staged_word m c (w c) (hsel c) t
  have hchk : ∀ y, k0_chk1 (iblk m c 0 t y) := fun y => (hst y).symm ▸ hw c
  unfold bodyPre bodyPost
  obtain rfl := fin_N0 t
  rw [Phi_first, Phi_last, ends_list, ends_list, Y_data, Y_table, Y_out]
  simp only [before_eq, after_eq]
  erw [owns_stage c (iblk m c 0 t0_0)]
  unfold Dat.owesAt Pipeline.owesWithin
  rw [show (dats m w hw 0 c).owed t0_0.castSucc = 0 from rfl, show (dats m w hw 0 c).owed t0_0.succ = 0 from rfl]
  iintro ⟨⟨⟨H0, H2, HO⟩, ⟨Hq1, Hq2, Hq3, Hq4, Hq5, Hq6, Hq7, Hq8⟩, ⟨⟨%di, Hi⟩, ⟨%dO, Hb⟩, ⟨%dmi, Hmi⟩, ⟨%dmf, Hmf⟩⟩, Hg⟩, ⟨%W, -, HW⟩, ⟨%d0, Hs⟩⟩
  rw [← result_eq c (iblk m c 0 t0_0) (V m c main_arg0) (V m c main_arg2) (V m c main_v1) di dO dmi dmf hchk (w c) (hw c) hst]
  iapply ((run c (iblk m c 0 t0_0) (V m c main_arg0) (V m c main_arg2) (V m c main_v1) di dO dmi dmf hchk).2 W _)
  isplitl [Hs]; · iexact Hs
  isplitl [H0]; · iexact H0
  isplitl [H2]; · iexact H2
  isplitl [HO]; · iexact HO
  isplitl [Hi]; · iexact Hi
  isplitl [Hb]; · iexact Hb
  isplitl [Hmi]; · iexact Hmi
  isplitl [Hmf]; · iexact Hmf
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [HW]; · iexact HW
  iintro ⟨Hs, H0, H2, HO, Hi, Hb, Hmi, Hmf, Hq1, Hq2, Hq3, Hq4, Hq5, Hq6, Hq7, Hq8, ⟨%W', HW'⟩⟩
  isplitl [H0 H2 HO Hi Hb Hmi Hmf Hq1 Hq2 Hq3 Hq4 Hq5 Hq6 Hq7 Hq8 Hg]
  · isplitl [H0 H2 HO]
    · isplitl [H0]; · iexact H0
      isplitl [H2]; · iexact H2
      iexact HO
    isplitl [Hq1 Hq2 Hq3 Hq4 Hq5 Hq6 Hq7 Hq8]
    · isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      iexact Hq8
    isplitl [Hi Hb Hmi Hmf]
    · isplitl [Hi]; · iexact Hi
      isplitl [Hb]; · iexact Hb
      isplitl [Hmi]; · iexact Hmi
      iexact Hmf
    iexact Hg
  isplitl [HW']
  · iexists W'; isplitr; · ipureintro; exact fun _ _ => Or.inl trivial
    iexact HW'
  iexact Hs

/-- The kernel called at a point is the body at that point. -/
theorem defs₀_row (t : Fin cfg0.N) :
    defs₀ (F := F) .tc cfg0.body (cfg0.bodyArgs t (cfg0.slots t)) = bodyAt0 t := by
  unfold defs₀; rw [Defs.onTc_tc]

/-- The body meets what the launch asks of it at every point. -/
theorem body_obligation (hsel : ∀ (c : Dev nD) y, m ((c : Thread nD τ).loc main_arg1) y = w c) (c : Dev nD) :
    BodyObligation (dats m w hw 0 c) (defs₀ (F := F)) Variants.none () Set.univ := fun t => by
  rw [bigSep_W0, bigSep_W0, defs₀_row]
  exact triple_restated (sound_body m w hw hsel c t) rfl .rfl fun _ => .rfl

/-! ## The run -/

set_option maxHeartbeats 800000 in
/-- The program up to the body: the reshape of the selector, then the call. -/
theorem main_prefix (𝒱₀ : Variants) : Pipeline.HMain (Ix := Unit) (Name := ℕ) (U := Pipeline.UC sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The run of the whole program: the body's arrays at `Y`, every other array as it was, every semaphore at zero. -/
theorem run_main (hsel : ∀ (c : Dev nD) y, m ((c : Thread nD τ).loc main_arg1) y = w c) :
    θ_run defs (onTc (τ := τ) (main (F := F))) (s₀ m ρ)
      (fun r => Pipeline.RoutedPost cfgs (dats m w hw) 0 R0 (V m) (Y m w hw) r ∧ r.2.sem = fun _ => 0) :=
  Pipeline.θ_run_frame_routed (Q' := _) cfgs (dats m w hw) (0 : Fin 1) launch0 ownSemFacts0 defs₀ Variants.none m ρ main
    (hbody := fun c => (body_obligation m w hw hsel c).loose) (hshare := fun c => (dats m w hw 0 c).share_full fun _ => rfl)
    (howed := fun _ _ => rfl) (V := V m) (hmain := main_prefix m Variants.none) (hA := A_eq m w hw)
    (R := R0) (hR := R0_sub) (Y := Y m w hw)
    (hin := fun _ => .rfl) (hout := fun _ => .rfl)

/-- Where the selector names a row of the table, the program ends with its result at the data times that row, its
    arguments unchanged and every semaphore at zero. -/
theorem result_run (hsel : ∀ (c : Dev nD) y, m ((c : Thread nD τ).loc main_arg1) y = w c) :
    θ_run defs (onTc (τ := τ) (main (F := F))) ⟨m, fun _ => 0, ρ⟩ (fun r => (∀ c : Dev nD,
      r.2.mem ((c.tc : Thread nD τ).loc main_v1)
          = product (m ((c.tc : Thread nD τ).loc main_arg0)) (tableRow (w c) (hw c) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => by
      obtain ⟨-, hin, hoff⟩ := h.1 c
      refine ⟨(hin main_v1 (by decide)).trans ?_, (hin main_arg0 (by decide)).trans ?_,
        (hoff main_arg1 (Finset.mem_sdiff.mpr ⟨Pipeline.mem_restRefs_of main_arg1 (by decide) (by decide), by decide⟩)).trans (V_main_arg1 m c),
        (hin main_arg2 (by decide)).trans ?_⟩
      · rw [Y_out, V_main_arg0, V_main_arg2]
      · rw [Y_data, V_main_arg0]
      · rw [Y_table, V_main_arg2], h.2⟩) (run_main m ρ w hw hsel)

end Cert.KernelIdeal.Hand

end
-- ==== Proof.Selector.lean ====
module

public import proofs.«01_k».proof.Pre_param_in_range
public import proofs.«01_k».proof.Proof.Gen.KernelIdeal
public import Idealize.ShloMosaic.Lib.WordCmp

/-!
# What the precondition says of the selector

The precondition is that the selector, read signed, is at least 0 and below 64. Its word is then a number below 64, and
the row of the table at that number lies inside the table.
-/

@[expose] public section

noncomputable section

namespace Cert.Selector

open Idealize.ShloMosaic

variable {F : FTy → Type} [FloatOps F]

/-- The bitwise and of two truth bits is the bit of their conjunction. -/
theorem andi_ofBool (p q : Bool) : IntOp.andi (BitVec.ofBool p) (BitVec.ofBool q) = BitVec.ofBool (p && q) := by
  cases p <;> cases q <;> decide

/-- A truth bit is one where its truth value is true. -/
theorem ofBool_eq_one (p : Bool) : BitVec.ofBool p = 1#1 ↔ p = true := by cases p <;> decide

/-- Under the precondition the selector's word is a number below 64. -/
theorem lt_of_pre [Cert.Pre_param_in_range.Facts] (x0 : FVec F Cert.Pre_param_in_range.S16384x4096 .f32)
    (x1 : IVec Cert.Pre_param_in_range.S_ 32) (x2 : IVec Cert.Pre_param_in_range.S64x4096 32)
    (h : Cert.Pre_param_in_range.fn (F := F) x0 x1 x2 = fun _ => 1#1) (y : Cert.Pre_param_in_range.S_.Idx) :
    (x1 y).toNat < 64 := by
  have e := congrFun h y
  simp only [Cert.Pre_param_in_range.fn, andi, cmpi, constantI, IntOp.cmpi, andi_ofBool, ofBool_eq_one, Bool.and_eq_true] at e
  obtain ⟨hge, hlt⟩ := e
  simp only [BitVec.sle, BitVec.slt, decide_eq_true_eq, BitVec.toInt, BitVec.toNat_ofNat] at hge hlt
  omega

/-- The row of the table at a number below 64 lies inside the table. -/
theorem row_inside (w : BitVec 32) (h : w.toNat < 64) : Cert.KernelIdeal.k0_chk1 w := by
  unfold Cert.KernelIdeal.k0_chk1 Cert.KernelIdeal.k0_off1
  intro a
  fin_cases a <;> simp <;> omega

end Cert.Selector

end
-- ==== Proof.ReferenceIdeal.Run.lean ====
module

public import proofs.«01_k».proof.Proof.Gen.ReferenceIdeal
public import proofs.«01_k».proof.Proof.Selector
public import Idealize.ShloMosaic.Lib.DynamicIndex
public import Idealize.ShloMosaic.Lib.StableHlo.Run

/-!
# The reference, run

The reference's operations in three parts: those that compute the two indices of the row, the slice that takes the row,
and those that convert it and multiply the data by it. Each part is read by itself.
-/

@[expose] public section

noncomputable section

namespace Cert.ReferenceIdeal.Hand

open Cert.ReferenceIdeal Cert.ReferenceIdeal.Gen
open Idealize.ShloMosaic Idealize.ShloMosaic.TcCoe Idealize.SL.Sem Idealize.ShloMosaic.StableHlo

variable {F : FTy → Type} [FloatOps F]

/-- What a buffer of an array type holds. -/
abbrev Arr (F : FTy → Type) (s : Shape) (e : EltTy) : Type := BufTy.Contents (Elt F) ⟨s, e⟩

/-- The operations that compute the two indices: the selector, wrapped where negative, and 0. -/
abbrev indexOps : List (HloOp τ sig (Elt F)) :=
  [ nullary main_c (constantI S_ 32 0#32),
    binary main_arg1 main_c main_v0 (cmpi .slt : Arr F S_ .i32 → Arr F S_ .i32 → Arr F S_ .i1),
    nullary main_c_0 (constantI S_ 32 64#32),
    binary main_arg1 main_c_0 main_v1 (addi : Arr F S_ .i32 → Arr F S_ .i32 → Arr F S_ .i32),
    ternary main_v0 main_v1 main_arg1 main_v2 (select : Arr F S_ .i1 → Arr F S_ .i32 → Arr F S_ .i32 → Arr F S_ .i32),
    nullary main_c_1 (constantI S_ 32 0#32),
    nullary main_c_2 (constantI S_ 32 0#32),
    binary main_c_1 main_c_2 main_v3 (cmpi .slt : Arr F S_ .i32 → Arr F S_ .i32 → Arr F S_ .i1),
    nullary main_c_3 (constantI S_ 32 0#32),
    nullary main_c_4 (constantI S_ 32 4096#32),
    binary main_c_3 main_c_4 main_v4 (addi : Arr F S_ .i32 → Arr F S_ .i32 → Arr F S_ .i32),
    nullary main_c_5 (constantI S_ 32 0#32),
    ternary main_v3 main_v4 main_c_5 main_v5 (select : Arr F S_ .i1 → Arr F S_ .i32 → Arr F S_ .i32 → Arr F S_ .i32) ]

/-- The slice of the table at the two indices. -/
abbrev sliceOp : HloOp τ sig (Elt F) :=
  unaryIndexed main_arg2 ![main_v2, main_v5] ⟨S_, .i32⟩ main_v6
    ((fun x i => Host.dynamicSlice S1x4096 x (fun k => (i k (Shape.Idx.first h_S_)).toInt) sliceFits_S64x4096_S1x4096) :
      Arr F S64x4096 .i32 → (Fin 2 → Arr F S_ .i32) → Arr F S1x4096 .i32)

/-- The operations that convert the row to floats, repeat it on every row and multiply the data by it. -/
abbrev maskOps : List (HloOp τ sig (Elt F)) :=
  [ reshape main_v6 main_v7 (rfl : (.i32 : EltTy) = .i32) shapeCasts_S1x4096_S4096,
    unary main_v7 main_v8 (sitofp .f32 : Arr F S4096 .i32 → Arr F S4096 .f32),
    reshape main_v8 main_v9 (rfl : (.f32 : EltTy) = .f32) shapeCasts_S4096_S1x4096,
    unary main_v9 main_v10 (broadcastInDim S16384x4096 ![0, 1] bcast_S1x4096_S16384x4096_0_1 : Arr F S1x4096 .f32 → Arr F S16384x4096 .f32),
    binary main_v10 main_arg0 main_v11 (mulf : Arr F S16384x4096 .f32 → Arr F S16384x4096 .f32 → Arr F S16384x4096 .f32) ]

/-- The whole program: the three parts in turn. -/
abbrev ops : List (HloOp τ sig (Elt F)) := indexOps ++ sliceOp :: maskOps

/-- The printed program is this line of operations. -/
theorem main_eq (c : Dev nD) : main (F := F) c = seq ops := rfl

/-- The reference has no scoped buffer. -/
theorem scopedRefs_eq : (Finset.univ.filter fun b : Ref sig .tc => b.isScoped) = ∅ := by decide

/-- The reference has no scoped semaphore. -/
theorem scopedSems_eq : (Finset.univ.filter fun sm : SemLoc sig => sm.isScoped .tc) = ∅ := by decide

/-- Every operation reads and writes buffers of the program only. -/
theorem ops_sub : (ops : List (HloOp τ sig (Elt F))).Forall fun op => op.bufs ⊆ tcRefs τ sig :=
  ⟨nullary_bufs_sub .., binary_bufs_sub .., nullary_bufs_sub .., binary_bufs_sub .., ternary_bufs_sub .., nullary_bufs_sub ..,
    nullary_bufs_sub .., binary_bufs_sub .., nullary_bufs_sub .., nullary_bufs_sub .., binary_bufs_sub .., nullary_bufs_sub ..,
    ternary_bufs_sub .., unaryIndexed_bufs_sub .., reshape_bufs_sub .., unary_bufs_sub .., reshape_bufs_sub .., unary_bufs_sub ..,
    binary_bufs_sub ..⟩

/-- A line of operations followed by another is run in two parts. -/
theorem after_parts (l₁ l₂ : List (HloOp τ sig (Elt F))) (V : Valuation τ sig (Elt F)) :
    after (l₁ ++ l₂) V = after l₂ (after l₁ V) := by
  induction l₁ generalizing V with
  | nil => rfl
  | cons op l ih => exact ih _

/-! ## What no operation writes -/

/-- A buffer that no operation writes holds at the end what it held at the start. -/
theorem kept (V : Valuation τ sig (Elt F)) (b : Ref sig .tc)
    (hb : b ∉ [main_c, main_v0, main_c_0, main_v1, main_v2, main_c_1, main_c_2, main_v3, main_c_3, main_c_4, main_v4, main_c_5,
      main_v5, main_v6, main_v7, main_v8, main_v9, main_v10, main_v11]) :
    after ops V (Proc.devRef .tc b) = V (Proc.devRef .tc b) :=
  after_of_writes_sub ops V (by
    simp only [List.cons_append, List.nil_append, List.Forall, nullary_writes, unary_writes, binary_writes, ternary_writes,
      reshape_writes, unaryIndexed_writes]
    repeat' apply And.intro
    all_goals exact Finset.singleton_subset_iff.mpr (List.mem_toFinset.mpr (List.mem_map_of_mem (by decide)))) hb

/-! ## The three parts -/

/-- The index part leaves the arguments as they were. -/
theorem index_kept (V : Valuation τ sig (Elt F)) (b : Ref sig .tc)
    (hb : b ∉ [main_c, main_v0, main_c_0, main_v1, main_v2, main_c_1, main_c_2, main_v3, main_c_3, main_c_4, main_v4, main_c_5,
      main_v5]) :
    after indexOps V (Proc.devRef .tc b) = V (Proc.devRef .tc b) :=
  after_of_writes_sub indexOps V (by
    simp only [List.Forall, nullary_writes, binary_writes, ternary_writes]
    repeat' apply And.intro
    all_goals exact Finset.singleton_subset_iff.mpr (List.mem_toFinset.mpr (List.mem_map_of_mem (by decide)))) hb

/-- The row index: the selector, wrapped where negative. -/
theorem index_row (V : Valuation τ sig (Elt F)) :
    after indexOps V (Proc.devRef .tc main_v2)
      = (select (cmpi .slt (V (Proc.devRef .tc main_arg1) : Arr F S_ .i32) (constantI S_ 32 0#32))
          (addi (V (Proc.devRef .tc main_arg1) : Arr F S_ .i32) (constantI S_ 32 64#32)) (V (Proc.devRef .tc main_arg1) : Arr F S_ .i32) : Arr F S_ .i32) := by
  after_results

/-- The column index: 0. -/
theorem index_column (V : Valuation τ sig (Elt F)) (y : S_.Idx) :
    (after indexOps V (Proc.devRef .tc main_v5) : Arr F S_ .i32) y = 0#32 := by
  have e : after indexOps V (Proc.devRef .tc main_v5)
      = (select (cmpi .slt (constantI S_ 32 0#32) (constantI S_ 32 0#32)) (addi (constantI S_ 32 0#32) (constantI S_ 32 4096#32))
          (constantI S_ 32 0#32) : Arr F S_ .i32) := by after_results
  rw [e]; rfl

/-- The slice takes the row the indices name, where that row lies inside the table. -/
theorem slice_row (V : Valuation τ sig (Elt F)) (n : ℕ) (hn : S64x4096.Slices ![n, 0] S1x4096)
    (hr : ((V (Proc.devRef .tc main_v2) : Arr F S_ .i32) (Shape.Idx.first h_S_)).toInt = (n : ℤ))
    (hc : ((V (Proc.devRef .tc main_v5) : Arr F S_ .i32) (Shape.Idx.first h_S_)).toInt = 0) :
    (sliceOp (F := F)).result V (Proc.devRef .tc main_v6)
      = (extractStridedSlice S1x4096 ![n, 0] (V (Proc.devRef .tc main_arg2) : Arr F S64x4096 .i32) hn : Arr F S1x4096 .i32) := by
  rw [unaryIndexed_result]
  refine Host.dynamicSlice_eq_extractStridedSlice S1x4096 (V (Proc.devRef .tc main_arg2) : Arr F S64x4096 .i32) _ ![n, 0]
    sliceFits_S64x4096_S1x4096 hn (fun k => ?_)
  fin_cases k
  · exact hr
  · exact hc

/-- The last part multiplies the data by the converted row, repeated on every row. -/
theorem mask_result (V : Valuation τ sig (Elt F)) :
    after maskOps V (Proc.devRef .tc main_v11)
      = (mulf (broadcastInDim S16384x4096 ![0, 1] bcast_S1x4096_S16384x4096_0_1
          (shapeCast S1x4096 (sitofp .f32 (shapeCast S4096 (V (Proc.devRef .tc main_v6) : Arr F S1x4096 .i32) shapeCasts_S1x4096_S4096))
            shapeCasts_S4096_S1x4096)) (V (Proc.devRef .tc main_arg0) : Arr F S16384x4096 .f32) : Arr F S16384x4096 .f32) := by
  after_results; rfl

end Cert.ReferenceIdeal.Hand

end
-- ==== Proof.ReferenceIdeal.Value.lean ====
module

public import proofs.«01_k».proof.Proof.ReferenceIdeal.Run
public import proofs.«01_k».proof.Proof.KernelIdeal.Value
public import Idealize.ShloMosaic.Lib.Pipeline.Value
public import Idealize.ShloMosaic.Lib.Quiescent
public import Idealize.ShloMosaic.PureOps.Ideal

/-!
# What the reference computes

The reference multiplies the mask row by the data, the mask on the left. Over the extended reals that is the data times
the mask row, the value the kernel leaves in its result.
-/

@[expose] public section

noncomputable section

namespace Cert.ReferenceIdeal.Hand

open Cert.ReferenceIdeal Cert.ReferenceIdeal.Gen
open Idealize.ShloMosaic hiding ix2
open Idealize.ShloMosaic.TcCoe Idealize.ShloMosaic.ValueIdx Idealize.SL.Sem Idealize.ShloMosaic.StableHlo
open Cert.KernelIdeal.Hand (tableRow product)

/-- A word below 64, read signed, is its number. -/
theorem toInt_small (w : BitVec 32) (h : w.toNat < 64) : w.toInt = (w.toNat : ℤ) := by
  rw [BitVec.toInt_eq_toNat_cond]; split <;> omega

/-- The row block at a number below 64 lies inside the table. -/
theorem row_slices (w : BitVec 32) (h : w.toNat < 64) : S64x4096.Slices ![w.toNat, 0] S1x4096 :=
  ⟨rfl, Cert.Selector.row_inside w h⟩

/-- The row block at the selector is the selector's row of the table. -/
theorem block_row (w : BitVec 32) (h : w.toNat < 64) (x : Arr Ideal S64x4096 .i32) (hn : S64x4096.Slices ![w.toNat, 0] S1x4096) :
    extractStridedSlice S1x4096 ![w.toNat, 0] x hn = tableRow (F := Ideal) w (Cert.Selector.row_inside w h) x := by
  funext j
  unfold extractStridedSlice tableRow
  refine congrArg x (funext fun a => Fin.ext ?_)
  fin_cases a
  · show w.toNat + (j 0).val = w.toNat + 1 * (j 0).val; omega
  · show 0 + (j 1).val = 0 + 1 * (j 1).val; omega

/-- Converting the row laid out as a line and laying it out as a row again is converting the row. -/
theorem mask_row (r : Arr Ideal S1x4096 .i32) :
    shapeCast S1x4096 (sitofp (F := Ideal) .f32 (shapeCast S4096 r shapeCasts_S1x4096_S4096)) shapeCasts_S4096_S1x4096
      = sitofp (F := Ideal) .f32 r :=
  shapeCast_shapeCast (sitofp (F := Ideal) .f32 r) shapeCasts_S1x4096_S4096 shapeCasts_S4096_S1x4096

/-- The repeated mask row times the data is the data times the mask row. -/
theorem mask_times (x : FVec Ideal S16384x4096 .f32) (r : Arr Ideal S1x4096 .i32) :
    mulf (broadcastInDim S16384x4096 ![0, 1] bcast_S1x4096_S16384x4096_0_1 (sitofp (F := Ideal) .f32 r)) x = product (F := Ideal) x r := by
  funext i
  refine (mul_comm (G := EReal) _ _).trans (congrArg (fun z : EReal => (x i : EReal) * z) ?_)
  exact broadcastInDim_apply _ bcast_S1x4096_S16384x4096_0_1 (sitofp (F := Ideal) .f32 r) i (ix2 (0 : Fin 1) (i 1)) (fun a => by
    fin_cases a
    · exact (if_pos rfl).symm
    · exact (if_neg (by decide)).symm)

/-- The same of two rows known to be equal. -/
theorem masked (x : Arr Ideal S16384x4096 .f32) (r r' : Arr Ideal S1x4096 .i32) (e : r = r') :
    (mulf (broadcastInDim S16384x4096 ![0, 1] bcast_S1x4096_S16384x4096_0_1 (sitofp (F := Ideal) .f32 r)) x : Arr Ideal S16384x4096 .f32)
      = product (F := Ideal) x r' :=
  e ▸ mask_times x r

/-- The reference's result, where the selector is a number below 64. -/
theorem result_eq (V : Valuation τ sig (Elt Ideal)) (w : BitVec 32) (h : w.toNat < 64)
    (hsel : ∀ y, (V (Proc.devRef .tc main_arg1) : Arr Ideal S_ .i32) y = w) :
    after ops V (Proc.devRef .tc main_v11)
      = product (F := Ideal) (V (Proc.devRef .tc main_arg0)) (tableRow w (Cert.Selector.row_inside w h) (V (Proc.devRef .tc main_arg2))) := by
  have data : (sliceOp (F := Ideal)).result (after indexOps V) (Proc.devRef .tc main_arg0) = V (Proc.devRef .tc main_arg0) :=
    (unaryIndexed_result_ne _ _ _ _ _ _ _ _ _ _ (by decide)).trans (index_kept V main_arg0 (by decide))
  rw [after_parts, after_cons, mask_result, mask_row, data,
    slice_row _ w.toNat (row_slices w h)
      (by rw [index_row, select_slt_zero_of_nonneg _ _ _ _ (by rw [hsel, toInt_small w h]; omega), hsel, toInt_small w h])
      (by rw [index_column]; rfl),
    index_kept V main_arg2 (by decide)]
  exact masked (V (Proc.devRef .tc main_arg0)) _ _ (block_row w h (V (Proc.devRef .tc main_arg2)) (row_slices w h))

/-- The reference's run: its result and arguments as the operations leave them. -/
theorem run_main (m : (ℓ : Loc nD τ sig) → Buf (Elt Ideal) ℓ) (ρ : Dev nD → PrngReg) :
    θ_run defs (onTc (τ := τ) (main (F := Ideal))) ⟨m, fun _ => 0, ρ⟩ (fun r => ∀ (d : Dev nD) (b : Ref sig .tc),
      r.2.mem ((d.tc : Thread nD τ).loc b) = after ops (launchContents m d) (Proc.devRef .tc b)) :=
  run_seq scopedRefs_eq scopedSems_eq defs main (fun _ => ops) main_eq (fun _ => ops_sub) m ρ

/-- The reference ends with its arguments unchanged and, having no semaphore, every semaphore at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c main_arg0).trans (kept _ _ (by decide)), (h c main_arg1).trans (kept _ _ (by decide)),
    (h c main_arg2).trans (kept _ _ (by decide))⟩, sem_eq_zero_of_no_sems (by decide) r.2⟩) (run_main m ρ)

/-- Where the selector is a number below 64, the reference ends with its result at the data times the selector's row of
    the table. -/
theorem result_run (m : (ℓ : Loc nD τ sig) → Buf (Elt Ideal) ℓ) (ρ : Dev nD → PrngReg) (w : Dev nD → BitVec 32)
    (hsel : ∀ (c : Dev nD) y, m ((c.tc : Thread nD τ).loc main_arg1) y = w c) (h : ∀ c, (w c).toNat < 64) :
    θ_run defs (onTc (τ := τ) (main (F := Ideal))) ⟨m, fun _ => 0, ρ⟩ (fun r => ∀ c : Dev nD,
      r.2.mem ((c.tc : Thread nD τ).loc main_v11)
          = product (F := Ideal) (m ((c.tc : Thread nD τ).loc main_arg0))
              (tableRow (w c) (Cert.Selector.row_inside (w c) (h c)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c => ⟨(hr c main_v11).trans (result_eq _ (w c) (h c) (hsel c)),
    (hr c main_arg0).trans (kept _ _ (by decide)), (hr c main_arg1).trans (kept _ _ (by decide)),
    (hr c main_arg2).trans (kept _ _ (by decide))⟩) (run_main m ρ)

end Cert.ReferenceIdeal.Hand

end
-- ==== Proof.Frames.lean ====
module

public import proofs.«01_k».proof.Defs
public import proofs.«01_k».proof.Proof.Gen.Kernel
public import proofs.«01_k».proof.Proof.KernelIdeal.Launch
public import proofs.«01_k».proof.Proof.Selector

/-!
# The kernel's frames

`KernelIdeal`'s run is proved for any float values, so it gives that program's frame over the words of the machine as
well as over the extended reals. `Kernel` is the same program: its frame is `KernelIdeal`'s over the words.
-/

@[expose] public section

set_option maxRecDepth 100000

noncomputable section

namespace Cert.Proof

open Idealize.ShloMosaic Idealize.ShloMosaic.TcCoe Idealize.SL.Sem
open Cert.KernelIdeal (nD τ sig main_arg0 main_arg1 main_arg2)

variable {F : FTy → Type} [FloatOps F]

/-- The selector's one word on device `c`. -/
def selector (m : (ℓ : Loc nD τ sig) → Buf (Elt F) ℓ) (c : Dev nD) : BitVec 32 :=
  m ((c.tc : Thread nD τ).loc main_arg1) (fun a => a.elim0 : Cert.KernelIdeal.S_.Idx)

/-- The selector has no other word. -/
theorem selector_eq (m : (ℓ : Loc nD τ sig) → Buf (Elt F) ℓ) (c : Dev nD) (y : Cert.KernelIdeal.S_.Idx) :
    (m ((c.tc : Thread nD τ).loc main_arg1) : Cert.KernelIdeal.S_.Idx → BitVec 32) y = selector m c :=
  congrArg (m ((c.tc : Thread nD τ).loc main_arg1)) (funext fun a => a.elim0)

/-- The precondition has no side conditions. -/
instance preFacts : Cert.Pre_param_in_range.Facts := ⟨⟩

/-- The precondition on `KernelIdeal`'s arguments, over any float values. -/
def InRange (m : (ℓ : Loc nD τ sig) → Buf (Elt F) ℓ) : Prop :=
  ∀ c : Dev nD, Cert.Pre_param_in_range.fn (F := F) (m ((c.tc : Thread nD τ).loc main_arg0))
    (m ((c.tc : Thread nD τ).loc main_arg1)) (m ((c.tc : Thread nD τ).loc main_arg2)) = fun _ => 1#1

/-- Under the precondition the selector is a number below 64. -/
theorem selector_lt (m : (ℓ : Loc nD τ sig) → Buf (Elt F) ℓ) (h : InRange m) (c : Dev nD) : (selector m c).toNat < 64 :=
  Cert.Selector.lt_of_pre _ _ _ (h c) _

/-- `KernelIdeal`'s frame over the float values `F`: under the precondition it ends, its arguments unchanged and every
    semaphore at zero. -/
def FrameAt (F : FTy → Type) [FloatOps F] : Prop :=
  ∀ (m : (ℓ : Loc nD τ sig) → Buf (Elt F) ℓ) (g : Dev nD → PrngReg), InRange m →
    θ_run (Cert.KernelIdeal.defs (F := F)) (onTc (τ := τ) (Cert.KernelIdeal.main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The frame holds over any float values. -/
theorem frameAt (F : FTy → Type) [FloatOps F] : FrameAt F := fun m g h =>
  (θ_run Cert.KernelIdeal.defs _ _).mono (fun _ hr => ⟨fun c => (hr.1 c).2, hr.2⟩)
    (Cert.KernelIdeal.Hand.result_run m g (selector m) (fun c => Cert.Selector.row_inside _ (selector_lt m h c)) (selector_eq m))

/-- `Kernel` and `KernelIdeal` are one program, so `Kernel`'s frame is `KernelIdeal`'s over the machine's words. -/
theorem kernel_same : Cert.quiescent_Kernel = FrameAt Bits := by
  sl_kernel_rfl

/-- The frame claim of the kernel as printed. -/
theorem frame_Kernel : Cert.quiescent_Kernel := kernel_same ▸ frameAt Bits

/-- The frame claim of the kernel over the extended reals. -/
theorem frame_KernelIdeal : Cert.quiescent_KernelIdeal := fun m g h => frameAt Ideal m g h

end Cert.Proof

end
-- ==== Proof.lean ====
/-
The proof of `Cert.Claim`. The kernel's run is Proof/KernelIdeal (the body's run, what it leaves in the result, the whole
program), the reference's is Proof/ReferenceIdeal, the frames of the kernel are Proof/Frames, and here the kernel's value is
set against the reference's.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ring.Slots
public import proofs.«01_k».proof.Proof.KernelIdeal.Body
public import proofs.«01_k».proof.Proof.KernelIdeal.Value
public import proofs.«01_k».proof.Proof.KernelIdeal.Launch
public import proofs.«01_k».proof.Proof.ReferenceIdeal.Run
public import proofs.«01_k».proof.Proof.ReferenceIdeal.Value
public import proofs.«01_k».proof.Proof.Selector
public import proofs.«01_k».proof.Proof.Frames
public import Idealize.ShloMosaic.Adequacy
public import Idealize.ShloMosaic.Init

@[expose] public section

noncomputable section

namespace Cert.Proof

open Idealize.ShloMosaic Idealize.ShloMosaic.TcCoe Idealize.SL.Sem

/-- The frame claim of the reference, of every memory. -/
theorem frame_ReferenceIdeal : Cert.quiescent_ReferenceIdeal := fun m g _ => Cert.ReferenceIdeal.Hand.frame m g

/-- The frame claim of the reference under the precondition, which it does not need. -/
theorem frame_ReferenceIdeal_pre : Cert.quiescent_ReferenceIdeal_pre_param_in_range := fun m g _ => Cert.ReferenceIdeal.Hand.frame m g

/-- From memories that agree on the arguments, the selector below 64, the kernel and the reference both end with the data
    times the selector's row of the table in their results, their arguments unchanged. -/
theorem algebraic : Cert.algebraic_KernelIdeal_ReferenceIdeal := by
  intro m g m' g' hpre hagree
  have hlt := selector_lt m hpre
  have hsel : ∀ (c : Dev Cert.KernelIdeal.nD) y, m' ((c.tc : Thread Cert.ReferenceIdeal.nD Cert.ReferenceIdeal.τ).loc Cert.ReferenceIdeal.main_arg1) y
      = selector m c := fun c y => (congrFun (hagree c).2.1 y).trans (selector_eq m c y)
  refine ⟨fun c => Cert.KernelIdeal.Hand.product (m ((c.tc : Thread Cert.KernelIdeal.nD Cert.KernelIdeal.τ).loc Cert.KernelIdeal.main_arg0))
      (Cert.KernelIdeal.Hand.tableRow (selector m c) (Cert.Selector.row_inside _ (hlt c))
        (m ((c.tc : Thread Cert.KernelIdeal.nD Cert.KernelIdeal.τ).loc Cert.KernelIdeal.main_arg2))), ?_, ?_⟩
  · exact (θ_run Cert.KernelIdeal.defs _ _).mono (fun _ hr => hr.1)
      (Cert.KernelIdeal.Hand.result_run m g (selector m) (fun c => Cert.Selector.row_inside _ (hlt c)) (selector_eq m))
  · refine (θ_run Cert.ReferenceIdeal.defs _ _).mono (fun r hr c => ⟨(hr c).1.trans ?_, (hr c).2⟩)
      (Cert.ReferenceIdeal.Hand.result_run m' g' (selector m) hsel hlt)
    rw [(hagree c).1, (hagree c).2.2]

/-- All the claims. -/
theorem claim : Cert.Claim :=
  ⟨Cert.Kernel.Gen.facts, Cert.KernelIdeal.Gen.facts, Cert.ReferenceIdeal.Gen.facts, preFacts,
    frame_Kernel, frame_KernelIdeal, frame_ReferenceIdeal, frame_ReferenceIdeal_pre, trivial, algebraic⟩

end Cert.Proof

end
